-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x64 : Shape := ⟨2, ![131072, 64]⟩
abbrev S512x64 : Shape := ⟨2, ![512, 64]⟩
abbrev S131072 : Shape := ⟨1, ![131072]⟩
abbrev S16384x64 : Shape := ⟨2, ![16384, 64]⟩
abbrev S16384 : Shape := ⟨1, ![16384]⟩
abbrev S64x16384 : Shape := ⟨2, ![64, 16384]⟩
abbrev S1x16384 : Shape := ⟨2, ![1, 16384]⟩
abbrev S512x16384 : Shape := ⟨2, ![512, 16384]⟩
abbrev S8x16384 : Shape := ⟨2, ![8, 16384]⟩
abbrev S8x1 : Shape := ⟨2, ![8, 1]⟩

abbrev nBuf : Space → Nat
  | .hbm => 3
  | .vmem => 5
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072, .i32⟩
  | .local _ .vmem, ⟨0, _⟩ => ⟨S16384x64, .f32⟩
  | .local _ .vmem, ⟨1, _⟩ => ⟨S16384x64, .f32⟩
  | .local _ .vmem, ⟨2, _⟩ => ⟨S512x64, .f32⟩
  | .local _ .vmem, ⟨3, _⟩ => ⟨S16384, .i32⟩
  | .local _ .vmem, ⟨4, _⟩ => ⟨S16384, .i32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S64x512 : Shape := ⟨2, ![64, 512]⟩
abbrev S131072x512 : Shape := ⟨2, ![131072, 512]⟩

abbrev nBuf : Space → Nat
  | .hbm => 19
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x64, .f32⟩
  | .hbm, ⟨11, _⟩ => ⟨S131072x64, .f32⟩
  | .hbm, ⟨12, _⟩ => ⟨S64x512, .f32⟩
  | .hbm, ⟨13, _⟩ => ⟨S131072x512, .f32⟩
  | .hbm, ⟨14, _⟩ => ⟨S131072x512, .i32⟩
  | .hbm, ⟨15, _⟩ => ⟨S_, .f32⟩
  | .hbm, ⟨16, _⟩ => ⟨S_, .i32⟩
  | .hbm, ⟨17, _⟩ => ⟨S131072, .f32⟩
  | .hbm, ⟨18, _⟩ => ⟨S131072, .i32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_c : Ref sig .tc := ⟨.hbm, 16, rfl⟩
abbrev main_call1_v1_0 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Chain.lean ====
/- What one grid point's stored block is, with the kernel's unrolled steps folded into three recursions.

   The kernel cuts its 512 similarity rows into 64 groups of eight rows and walks them two groups (a pair) at a time,
   32 pairs in all, keeping for every sublane and column the largest similarity met, the number of the pair that first
   reached it, and that pair's even-numbered member. The printed program spells the walk out step by step; here each
   of the three running quantities is one recursion on the pair number, and the printed text is shown to be the last
   value of each. -/
module

public import proofs.«01_k».proof.Defs
public import proofs.«01_k».proof.Proof.Gen.KernelIdeal.Frame

@[expose] public section

noncomputable section

namespace Cert.Chain

open Idealize.ShloMosaic Cert.KernelIdeal Cert.KernelIdeal.Gen

variable {F : FTy → Type} [FloatOps F]

/-- Eight whole rows starting at any of the 64 multiples of eight below 512 are rows of the 512-row matrix. -/
theorem group_fits (k : ℕ) : S512x16384.Slices ![8 * (k % 64), 0] S8x16384 :=
  ⟨rfl, fun a => by
    have hk : k % 64 < 64 := Nat.mod_lt _ (by decide)
    match a with
    | ⟨0, _⟩ => show 8 * (k % 64) + 8 ≤ 512; omega
    | ⟨1, _⟩ => show 0 + 16384 ≤ 16384; omega⟩

/-- Group `k` of the similarity matrix `S`: its rows `8k` to `8k + 7`. -/
def group (S : FVec F S512x16384 .f32) (k : ℕ) : FVec F S8x16384 .f32 :=
  extractStridedSlice S8x16384 ![8 * (k % 64), 0] S (group_fits k)

/-- Pair `p`: the larger of groups `2p` and `2p + 1`, element by element. -/
def pair (S : FVec F S512x16384 .f32) (p : ℕ) : FVec F S8x16384 .f32 := maximumf (group S (2 * p)) (group S (2 * p + 1))

/-- The largest value over the pairs `0` to `p`. -/
def best (S : FVec F S512x16384 .f32) : ℕ → FVec F S8x16384 .f32
  | 0 => pair S 0
  | p + 1 => maximumf (best S p) (pair S (p + 1))

/-- Where pair `p + 1` is strictly above every pair before it. -/
def gain (S : FVec F S512x16384 .f32) (p : ℕ) : IVec S8x16384 1 := cmpf .ogt (pair S (p + 1)) (best S p)

/-- The 32-bit patterns of the numbers 0 to 31 as the kernel writes them: its pair numbers. -/
def numeral : ℕ → BitVec 32
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | 15 => 0x41700000#32
  | 16 => 0x41800000#32 | 17 => 0x41880000#32 | 18 => 0x41900000#32 | 19 => 0x41980000#32
  | 20 => 0x41A00000#32 | 21 => 0x41A80000#32 | 22 => 0x41B00000#32 | 23 => 0x41B80000#32
  | 24 => 0x41C00000#32 | 25 => 0x41C80000#32 | 26 => 0x41D00000#32 | 27 => 0x41D80000#32
  | 28 => 0x41E00000#32 | 29 => 0x41E80000#32 | 30 => 0x41F00000#32 | _ => 0x41F80000#32

/-- The number of the first pair, among `0` to `p`, that holds the largest value. -/
def place (S : FVec F S512x16384 .f32) : ℕ → FVec F S8x16384 .f32
  | 0 => broadcast S8x16384 (Scalar.ofBits .f32 (numeral 0))
  | p + 1 => select (gain S p) (broadcast S8x16384 (Scalar.ofBits .f32 (numeral (p + 1)))) (place S p)

/-- The even-numbered member of that first pair. -/
def even (S : FVec F S512x16384 .f32) : ℕ → FVec F S8x16384 .f32
  | 0 => group S 0
  | p + 1 => select (gain S p) (group S (2 * (p + 1))) (even S p)

/-- The similarity matrix of one block of rows: the centroids times the block's normalised columns. -/
abbrev sim (x0 : Vec F S16384x64 .f32) (x1 : Vec F S512x64 .f32) : FVec F S512x16384 .f32 :=
  k0_pay2 (View.ld x0 r0_0) (View.ld x1 r0_1)

/-- The block the kernel stores is its closing stage applied to the recursions' values at the last step. -/
theorem out_eq (x0 : Vec F S16384x64 .f32) (x1 : Vec F S512x64 .f32) :
    out0_2 x0 x1 = View.canon [⟨r0_2, k0_pay1 (group (sim x0 x1) 62) (place (sim x0 x1) 30) (even (sim x0 x1) 30)
      (gain (sim x0 x1) 30) (best (sim x0 x1) 31)⟩] := by
  rfl

end Cert.Chain

end
-- ==== Proof.Walk.lean ====
/- What the kernel's walk over the 32 pairs leaves, read at one sublane and column with exact numbers: the largest of the
   64 group values there, and which group holds it first. -/
module

public import proofs.«01_k».proof.Proof.Chain
public import Idealize.ShloMosaic.PureOps.Ideal.Laws

@[expose] public section

noncomputable section

namespace Cert.Walk

open Idealize.ShloMosaic Cert.KernelIdeal Cert.Chain

/-- Each pattern of `numeral` denotes its own number. -/
theorem ofBits_numeral (p : ℕ) (hp : p < 32) : Ideal.ofBits .f32 (numeral p) = ((p : ℝ) : EReal) := by
  interval_cases p <;> simp [numeral, Ideal.ofBits, Ideal.ieee] <;> norm_num <;> rw [← EReal.coe_mul] <;> norm_num

variable (S : FVec Ideal S512x16384 .f32) (i : S8x16384.Idx)

/-- The pair's value is the larger of its two groups' values. -/
theorem pair_apply (p : ℕ) : pair S p i = max (group S (2 * p) i) (group S (2 * p + 1) i) := rfl

/-- One step of the running maximum. -/
theorem best_succ (p : ℕ) : best S (p + 1) i = max (best S p i) (pair S (p + 1) i) := rfl

/-- One step of the running pair number: a strictly larger pair takes over, an equal one does not. -/
theorem place_succ (p : ℕ) : place S (p + 1) i
    = if best S p i < pair S (p + 1) i then Ideal.ofBits .f32 (numeral (p + 1)) else place S p i := by
  show Scalar.select (BitVec.ofBool (decide (best S p i < pair S (p + 1) i))) _ _ = _
  by_cases h : best S p i < pair S (p + 1) i <;> simp [Scalar.select, h] <;> rfl

/-- One step of the running even member, taken over with the pair number. -/
theorem even_succ (p : ℕ) : even S (p + 1) i
    = if best S p i < pair S (p + 1) i then group S (2 * (p + 1)) i else even S p i := by
  show Scalar.select (BitVec.ofBool (decide (best S p i < pair S (p + 1) i))) _ _ = _
  by_cases h : best S p i < pair S (p + 1) i <;> simp [Scalar.select, h]

/-- Every group of the pairs walked is at most the running maximum. -/
theorem group_le_best (p k : ℕ) (hk : k ≤ 2 * p + 1) : group S k i ≤ best S p i := by
  induction p with
  | zero =>
    show _ ≤ max (group S 0 i) (group S 1 i)
    rcases (show k = 0 ∨ k = 1 by omega) with rfl | rfl
    · exact le_max_left _ _
    · exact le_max_right _ _
  | succ p ih =>
    rw [best_succ]
    by_cases h : k ≤ 2 * p + 1
    · exact le_max_of_le_left (ih h)
    · refine le_max_of_le_right ?_
      rw [pair_apply]
      rcases (show k = 2 * (p + 1) ∨ k = 2 * (p + 1) + 1 by omega) with rfl | rfl
      · exact le_max_left _ _
      · exact le_max_right _ _

/-- After pair `p` the walk names the first pair `q` that attains the running maximum: every group before it is strictly
    below, and the remembered even member is pair `q`'s. -/
theorem walk (p : ℕ) (hp : p < 32) : ∃ q ≤ p, place S p i = ((q : ℝ) : EReal) ∧ even S p i = group S (2 * q) i
    ∧ pair S q i = best S p i ∧ ∀ k < 2 * q, group S k i < best S p i := by
  induction p with
  | zero => exact ⟨0, le_refl 0, ofBits_numeral 0 (by decide), rfl, rfl, fun k hk => absurd hk (by omega)⟩
  | succ p ih =>
    by_cases h : best S p i < pair S (p + 1) i
    · have hb : best S (p + 1) i = pair S (p + 1) i := by rw [best_succ, max_eq_right h.le]
      refine ⟨p + 1, le_refl _, ?_, ?_, hb.symm, fun k hk => ?_⟩
      · rw [place_succ, if_pos h, ofBits_numeral _ hp]
      · rw [even_succ, if_pos h]
      · rw [hb]
        exact (group_le_best S i p k (by omega)).trans_lt h
    · obtain ⟨q, hq, h1, h2, h3, h4⟩ := ih (by omega)
      have hb : best S (p + 1) i = best S p i := by rw [best_succ, max_eq_left (not_lt.1 h)]
      refine ⟨q, by omega, ?_, ?_, ?_, ?_⟩
      · rw [place_succ, if_neg h, h1]
      · rw [even_succ, if_neg h, h2]
      · rw [hb, h3]
      · rw [hb]; exact h4

/-- The number twice the pair's, plus one unless the even member holds the maximum, is the first group that attains the
    maximum of all 64. -/
theorem first_group : ∃ k : ℕ, k < 64 ∧ place S 31 i * ((2 : ℝ) : EReal)
      + (if even S 31 i = best S 31 i then 0 else ((1 : ℝ) : EReal)) = ((k : ℝ) : EReal)
    ∧ group S k i = best S 31 i ∧ ∀ k' : ℕ, k' < k → group S k' i < best S 31 i := by
  obtain ⟨q, hq, h1, h2, h3, h4⟩ := walk S i 31 (by decide)
  rw [h1, h2]
  by_cases h : group S (2 * q) i = best S 31 i
  · refine ⟨2 * q, by omega, ?_, h, h4⟩
    rw [if_pos h, add_zero, ← EReal.coe_mul]
    push_cast
    rw [mul_comm]
  · have hlt : group S (2 * q) i < best S 31 i := lt_of_le_of_ne (group_le_best S i 31 _ (by omega)) h
    refine ⟨2 * q + 1, by omega, ?_, ?_, fun k' hk' => ?_⟩
    · rw [if_neg h, ← EReal.coe_mul, ← EReal.coe_add]
      push_cast
      rw [mul_comm]
    · rw [pair_apply] at h3
      rcases max_choice (group S (2 * q) i) (group S (2 * q + 1) i) with h5 | h5
      · exact absurd (h5.symm.trans h3) h
      · exact h5.symm.trans h3
    · by_cases h6 : k' < 2 * q
      · exact h4 k' h6
      · rw [show k' = 2 * q by omega]; exact hlt

end Cert.Walk

end
-- ==== Proof.First.lean ====
/- The first place where a finite row of extended reals is largest: what both programs compute for a row of 512
   similarities. -/
module

public import Mathlib.Data.EReal.Basic
public import Mathlib.Data.Fintype.EquivFin
public import Mathlib.Data.Fintype.Lattice

@[expose] public section

noncomputable section

namespace Cert.First

/-- Position `N` holds the largest of the `n` values of `s`, and no position before it does. -/
def IsFirst {n : ℕ} (s : Fin n → EReal) (N : Fin n) : Prop := (∀ k, s k ≤ s N) ∧ ∀ k, k < N → s k < s N

/-- There is at most one such position. -/
theorem IsFirst.unique {n : ℕ} {s : Fin n → EReal} {M N : Fin n} (hM : IsFirst s M) (hN : IsFirst s N) : M = N := by
  rcases lt_trichotomy M N with h | h | h
  · exact absurd (hM.1 N) (not_le.2 (hN.2 M h))
  · exact h
  · exact absurd (hN.1 M) (not_le.2 (hM.2 N h))

/-- A row with at least one position has one. -/
theorem exists_isFirst {n : ℕ} [NeZero n] (s : Fin n → EReal) : ∃ N, IsFirst s N := by
  obtain ⟨M, hM⟩ := Finite.exists_max s
  obtain ⟨N, hN, hmin⟩ := WellFounded.has_min (wellFounded_lt (α := Fin n)) {k | ∀ j, s j ≤ s k} ⟨M, hM⟩
  refine ⟨N, hN, fun k hk => ?_⟩
  by_contra hlt
  exact hmin k (fun j => (hN j).trans (not_lt.1 hlt)) hk

/-- The first position of the largest value. -/
def first {n : ℕ} [NeZero n] (s : Fin n → EReal) : Fin n := (exists_isFirst s).choose

/-- It is one, so it is the one. -/
theorem first_isFirst {n : ℕ} [NeZero n] (s : Fin n → EReal) : IsFirst s (first s) := (exists_isFirst s).choose_spec

/-- Whatever position is the first of the largest value is `first`. -/
theorem IsFirst.eq_first {n : ℕ} [NeZero n] {s : Fin n → EReal} {N : Fin n} (h : IsFirst s N) : N = first s :=
  h.unique (first_isFirst s)

end Cert.First

end
-- ==== Proof.Close.lean ====
/- The kernel's closing stage with exact numbers: from what the walk leaves at the eight sublanes of a column it answers
   the first of that column's 512 rows that holds the largest similarity. -/
module

public import proofs.«01_k».proof.Proof.Walk
public import proofs.«01_k».proof.Proof.First
public import Idealize.ShloMosaic.Lib.Pointwise.Index
public import Idealize.ShloMosaic.Lib.Pipeline.Value

@[expose] public section

noncomputable section

namespace Cert.Close

open Idealize.ShloMosaic Cert.KernelIdeal Cert.KernelIdeal.Gen Cert.Chain Cert.Walk Cert.First

variable (S : FVec Ideal S512x16384 .f32)

/-- The number of the first group that attains the maximum, at every sublane and column. -/
def groupNo : FVec Ideal S8x16384 .f32 :=
  addf (mulf (place S 31) (broadcast S8x16384 (Scalar.ofBits .f32 0x40000000#32)))
    (select (cmpf .oeq (even S 31) (best S 31)) (broadcast S8x16384 (Scalar.ofBits .f32 0x00000000#32))
      (broadcast S8x16384 (Scalar.ofBits .f32 0x3F800000#32)))

/-- Each column's maximum over its eight sublanes. -/
def colMax : FVec Ideal S16384 .f32 :=
  multiReduction .maximumf [0] S16384 (best S 31) 0xFF800000#32 reduces_S8x16384_S16384 (.inl rfl) rfl

/-- Each sublane's candidate: its first row that attains the column's maximum, or 512 where it holds none. -/
def candidate : FVec Ideal S8x16384 .f32 :=
  select (cmpf .oeq (best S 31) (broadcastTo S8x16384 (shapeCast S1x16384 (colMax S) shapeCasts_S16384_S1x16384)
      broadcasts_S1x16384_S8x16384))
    (addf (mulf (groupNo S) (broadcast S8x16384 (Scalar.ofBits .f32 0x41000000#32)))
      (broadcastTo S8x16384 (sitofp .f32 (iota .tc S8x1 32 [0] iota_S8x1_d0_w32)) broadcasts_S8x1_S8x16384))
    (broadcast S8x16384 (Scalar.ofBits .f32 0x44000000#32))

/-- Each column's smallest candidate. -/
def smallest : FVec Ideal S16384 .f32 :=
  multiReduction .minimumf [0] S16384 (candidate S) 0x7F800000#32 reduces_S8x16384_S16384 (.inl rfl) rfl

/-- The stored block is the smallest candidate of each column, as an integer. -/
theorem closing_eq : k0_pay1 (group S 62) (place S 30) (even S 30) (gain S 30) (best S 31)
    = fptosi 32 (smallest S) :=
  rfl

/-- The sublane and column a reduced column's `r`-th term sits at. -/
theorem lift_eq (j : S16384.Idx) (r : Fin 8) : (reduces_S8x16384_S16384 : S8x16384.Reduces [0] S16384).lift j r = ix2 r (j 0) :=
  Shape.idx_ext₂ rfl rfl

/-- The factor between a pair's number and its even group's. -/
theorem two_eq : Ideal.ofBits .f32 0x40000000#32 = ((2 : ℝ) : EReal) := by exact_mod_cast ofBits_numeral 2 (by decide)
/-- The step from a pair's even group to its odd one. -/
theorem one_eq : Ideal.ofBits .f32 0x3F800000#32 = ((1 : ℝ) : EReal) := by exact_mod_cast ofBits_numeral 1 (by decide)
/-- The number of rows of a group. -/
theorem eight_eq : Ideal.ofBits .f32 0x41000000#32 = ((8 : ℝ) : EReal) := by exact_mod_cast ofBits_numeral 8 (by decide)
/-- The number of rows, larger than every row's number. -/
theorem rows_eq : Ideal.ofBits .f32 0x44000000#32 = ((512 : ℝ) : EReal) := by
  simp [Ideal.ofBits, Ideal.ieee]
  norm_num
  rw [← EReal.coe_mul]
  norm_num
/-- The start of the maximum is the least value. -/
theorem bot_eq : Ideal.ofBits .f32 0xFF800000#32 = ⊥ := by simp [Ideal.ofBits, Ideal.ieee]
/-- The start of the minimum is the greatest value. -/
theorem top_eq : Ideal.ofBits .f32 0x7F800000#32 = ⊤ := by simp [Ideal.ofBits, Ideal.ieee]

/-- The column's maximum, as a fold over its eight sublanes. -/
theorem colMax_apply (j : S16384.Idx) :
    colMax S j = (Finset.univ : Finset (Fin 8)).fold max ⊥ fun r => best S 31 (ix2 r (j 0)) := by
  unfold colMax
  refine (Ideal.multiReduction_maximumf_single _ _ _ _ _ j).trans ?_
  show Finset.fold max (Ideal.ofBits .f32 0xFF800000#32) _ _ = _
  rw [bot_eq]
  exact congrArg (fun f => (Finset.univ : Finset (Fin 8)).fold max ⊥ f) (funext fun r => congrArg (best S 31) (lift_eq j r))

/-- The column's smallest candidate, as a fold over its eight sublanes. -/
theorem smallest_apply (j : S16384.Idx) :
    smallest S j = (Finset.univ : Finset (Fin 8)).fold min ⊤ fun r => candidate S (ix2 r (j 0)) := by
  unfold smallest
  refine (multiReduction_minimumf_eq_fold _ _ _ _ _ j).trans
    (((reduces_S8x16384_S16384 : S8x16384.Reduces [0] S16384).fold_filter_drop_single _ _ _ j).trans ?_)
  show Finset.fold min (Ideal.ofBits .f32 0x7F800000#32) _ _ = _
  rw [top_eq]
  exact congrArg (fun f => (Finset.univ : Finset (Fin 8)).fold min ⊤ f) (funext fun r => congrArg (candidate S) (lift_eq j r))

/-- The group number at one sublane and column. -/
theorem groupNo_apply (i : S8x16384.Idx) : groupNo S i = place S 31 i * ((2 : ℝ) : EReal)
      + (if even S 31 i = best S 31 i then 0 else ((1 : ℝ) : EReal)) := by
  show place S 31 i * Ideal.ofBits .f32 0x40000000#32
    + Scalar.select (BitVec.ofBool (decide (even S 31 i = best S 31 i))) (Ideal.ofBits .f32 0x00000000#32)
      (Ideal.ofBits .f32 0x3F800000#32) = _
  rw [two_eq, one_eq, Ideal.ofBits_zero_f32]
  by_cases h : even S 31 i = best S 31 i <;> simp [Scalar.select, h]

/-- The candidate at one sublane and column. -/
theorem candidate_apply (r : Fin 8) (c : Fin 16384) : candidate S (ix2 r c)
    = if best S 31 (ix2 r c) = colMax S (ix1 c) then groupNo S (ix2 r c) * ((8 : ℝ) : EReal) + ((r.val : ℝ) : EReal)
      else ((512 : ℝ) : EReal) := by
  have h1 : broadcastTo S8x16384 (shapeCast S1x16384 (colMax S) shapeCasts_S16384_S1x16384)
      broadcasts_S1x16384_S8x16384 (ix2 r c) = colMax S (ix1 c) := by
    refine (broadcastTo_apply _ _ _ (ix2 (0 : Fin 1) c) fun a => ?_).trans ?_
    · match a with
      | ⟨0, _⟩ => rfl
      | ⟨1, _⟩ => rfl
    · refine (shapeCast_addUnit_apply _ _ _ _).trans (congrArg (colMax S) (funext fun a => ?_))
      match a with
      | ⟨0, _⟩ => rfl
  have h2 : broadcastTo S8x16384 (sitofp (F := Ideal) .f32 (iota .tc S8x1 32 [0] iota_S8x1_d0_w32)) broadcasts_S8x1_S8x16384 (ix2 r c)
      = ((r.val : ℝ) : EReal) := by
    refine (broadcastTo_apply _ _ _ (ix2 r (0 : Fin 1)) fun a => ?_).trans ?_
    · match a with
      | ⟨0, _⟩ => rfl
      | ⟨1, _⟩ => rfl
    · show (((iota .tc S8x1 32 [0] iota_S8x1_d0_w32 (ix2 r (0 : Fin 1))).toInt : ℝ) : EReal) = _
      rw [iota_single_apply]
      have hr : ∀ r : Fin 8, (BitVec.ofNat 32 r.val).toInt = (r.val : ℤ) := by decide
      rw [show (BitVec.ofNat 32 ((ix2 r (0 : Fin 1) : S8x1.Idx) 0).val).toInt = (r.val : ℤ) from hr r, Int.cast_natCast]
  show Scalar.select (BitVec.ofBool (decide (best S 31 (ix2 r c) = _))) (groupNo S (ix2 r c) * Ideal.ofBits .f32 0x41000000#32 + _)
    (Ideal.ofBits .f32 0x44000000#32) = _
  rw [h1, h2, eight_eq, rows_eq]
  by_cases h : best S 31 (ix2 r c) = colMax S (ix1 c) <;> simp [Scalar.select, h]

/-- A row number below 512 comes through the conversion to a 32-bit integer unchanged. -/
theorem fptosi_row (N : ℕ) (hN : N < 512) : Ideal.fptosi 32 ((N : ℝ) : EReal) = BitVec.ofNat 32 N := by
  have h : Ideal.toIntClamped (-(2 ^ (32 - 1) : ℕ)) ((2 ^ (32 - 1) : ℕ) - 1) ((N : ℝ) : EReal) = (N : ℤ) := by
    show max _ (min _ (if (0 : ℝ) ≤ (N : ℝ) then ⌊(N : ℝ)⌋ else ⌈(N : ℝ)⌉)) = (N : ℤ)
    rw [if_pos (Nat.cast_nonneg N), Int.floor_natCast]
    norm_num
    omega
  unfold Ideal.fptosi
  rw [h]
  exact BitVec.ofInt_natCast 32 N

/-- Group `k` at sublane `r` is row `8k + r`. -/
theorem group_apply (k : ℕ) (hk : k < 64) (r : Fin 8) (c : Fin 16384) (n : Fin 512) (hn : n.val = 8 * k + r.val) :
    group S k (ix2 r c) = S (ix2 n c) := by
  unfold group
  refine extractStridedSlice_apply _ _ _ _ _ fun a => ?_
  match a with
  | ⟨0, _⟩ => show n.val = 8 * (k % 64) + r.val; rw [Nat.mod_eq_of_lt hk, hn]
  | ⟨1, _⟩ => show c.val = 0 + c.val; omega

/-- The smallest candidate of column `c` is the first row that holds the column's largest similarity. -/
theorem smallest_candidate (c : Fin 16384) : ∃ N : Fin 512, IsFirst (fun n => S (ix2 n c)) N
    ∧ (Finset.univ : Finset (Fin 8)).fold min ⊤ (fun r => candidate S (ix2 r c)) = ((N.val : ℝ) : EReal) := by
  -- the first group of each sublane, and the column's maximum
  choose k hk hno hat hbefore using fun r : Fin 8 => first_group S (ix2 r c)
  have hM : ∀ r : Fin 8, best S 31 (ix2 r c) ≤ colMax S (ix1 c) := fun r => by
    rw [colMax_apply]
    exact Finset.le_fold_max _ |>.2 (Or.inr ⟨r, Finset.mem_univ r, le_refl _⟩)
  have hattain : ∃ r : Fin 8, best S 31 (ix2 r c) = colMax S (ix1 c) := by
    obtain ⟨r, hr⟩ := Finite.exists_max fun r : Fin 8 => best S 31 (ix2 r c)
    refine ⟨r, le_antisymm (hM r) ?_⟩
    rw [colMax_apply]
    exact Finset.fold_max_le _ |>.2 ⟨bot_le, fun r' _ => hr r'⟩
  have hcand : ∀ r : Fin 8, candidate S (ix2 r c)
      = if best S 31 (ix2 r c) = colMax S (ix1 c) then (((8 * k r + r.val : ℕ) : ℝ) : EReal) else ((512 : ℝ) : EReal) := fun r => by
    rw [candidate_apply, groupNo_apply, hno r, ← EReal.coe_mul, ← EReal.coe_add]
    push_cast
    rw [mul_comm]
  -- the sublane whose candidate is smallest among those that attain the maximum
  obtain ⟨r0, hr0, hmin⟩ := Finset.exists_min_image (Finset.univ.filter fun r : Fin 8 => best S 31 (ix2 r c) = colMax S (ix1 c))
    (fun r => 8 * k r + r.val) (hattain.imp fun r hr => Finset.mem_filter.2 ⟨Finset.mem_univ r, hr⟩)
  have hr0' : best S 31 (ix2 r0 c) = colMax S (ix1 c) := (Finset.mem_filter.1 hr0).2
  have hlt : 8 * k r0 + r0.val < 512 := by have := hk r0; have := r0.isLt; omega
  have hrow : ∀ n : Fin 512, ∃ (q : ℕ) (r : Fin 8), q < 64 ∧ n.val = 8 * q + r.val := fun n =>
    ⟨n.val / 8, ⟨n.val % 8, Nat.mod_lt _ (by decide)⟩, by have := n.isLt; omega, by show n.val = 8 * (n.val / 8) + n.val % 8; omega⟩
  have hbest : S (ix2 ⟨8 * k r0 + r0.val, hlt⟩ c) = colMax S (ix1 c) := by
    rw [← group_apply S (k r0) (hk r0) r0 c _ rfl, hat r0, hr0']
  refine ⟨⟨8 * k r0 + r0.val, hlt⟩, ⟨fun n => ?_, fun n hn => ?_⟩, ?_⟩
  · obtain ⟨q, r, hq, hqr⟩ := hrow n
    show S (ix2 n c) ≤ S (ix2 _ c)
    rw [hbest, ← group_apply S q hq r c n hqr]
    exact (group_le_best S _ 31 q (by omega)).trans (hM r)
  · obtain ⟨q, r, hq, hqr⟩ := hrow n
    show S (ix2 n c) < S (ix2 _ c)
    rw [hbest, ← group_apply S q hq r c n hqr]
    refine lt_of_le_of_ne ((group_le_best S _ 31 q (by omega)).trans (hM r)) fun he => ?_
    have hb : best S 31 (ix2 r c) = colMax S (ix1 c) := le_antisymm (hM r) (he ▸ group_le_best S _ 31 q (by omega))
    have h1 : k r ≤ q := by
      by_contra h
      exact absurd he ((hbefore r q (by omega)).trans_le (hM r)).ne
    have h2 := hmin r (Finset.mem_filter.2 ⟨Finset.mem_univ r, hb⟩)
    have h3 : n.val < 8 * k r0 + r0.val := hn
    omega
  · refine le_antisymm ((Finset.fold_min_le _).2 (Or.inr ⟨r0, Finset.mem_univ r0, ?_⟩)) ((Finset.le_fold_min _).2 ⟨le_top, fun r _ => ?_⟩)
    · rw [hcand, if_pos hr0']
    · rw [hcand]
      by_cases h : best S 31 (ix2 r c) = colMax S (ix1 c)
      · rw [if_pos h]
        exact EReal.coe_le_coe_iff.2 (Nat.cast_le.2 (hmin r (Finset.mem_filter.2 ⟨Finset.mem_univ r, h⟩)))
      · rw [if_neg h]
        exact EReal.coe_le_coe_iff.2 (by exact_mod_cast hlt.le)

/-- What the kernel stores for column `c`: the first row that holds the column's largest similarity. -/
theorem closing_apply (j : S16384.Idx) : k0_pay1 (group S 62) (place S 30) (even S 30) (gain S 30) (best S 31) j
    = BitVec.ofNat 32 (first fun n : Fin 512 => S (ix2 n (j 0))).val := by
  obtain ⟨N, hN, hfold⟩ := smallest_candidate S (j 0)
  rw [closing_eq, ← hN.eq_first]
  show Ideal.fptosi 32 (smallest S j) = _
  rw [smallest_apply, hfold, fptosi_row N.val N.isLt]

end Cert.Close

end
-- ==== Proof.Score.lean ====
/- The quantity both programs maximise: the product of a centroid with a normalised row. -/
module

public import Idealize.ShloMosaic.PureOps.Ideal
public import Idealize.ShloMosaic.Lib.Pointwise.Index

@[expose] public section

noncomputable section

namespace Cert.Score

open Idealize.ShloMosaic

/-- The divisor of a row: the larger of its Euclidean norm and the small constant. -/
def divisor (v : Fin 64 → EReal) : EReal := max (Ideal.sqrt (∑ e : Fin 64, v e * v e)) (Ideal.ofBits .f32 0x2B8CBCCC#32)

/-- The similarity of a centroid `w` and a row `v`: the product of `w` with the row divided by its divisor. -/
def score (w v : Fin 64 → EReal) : EReal := ∑ d : Fin 64, w d * Ideal.div (v d) (divisor v)

/-- An index of a shape of one axis, from its coordinate. -/
def oneAxis (s : Shape) (n : ℕ) (hn : ∀ a, s.size a = n) (d : Fin n) : s.Idx := fun a => d.cast (hn a).symm

/-- A sum over the indices of a shape of one axis is a sum over the coordinate. -/
theorem sum_oneAxis (s : Shape) (n : ℕ) (hr : s.rank = 1) (hn : ∀ a, s.size a = n) (f : s.Idx → EReal) :
    ∑ k, f k = ∑ d : Fin n, f (oneAxis s n hn d) := by
  obtain ⟨r, z⟩ := s
  obtain rfl : r = 1 := hr
  refine (Function.Bijective.sum_comp (e := oneAxis ⟨1, z⟩ n hn) ⟨fun a b h => ?_, fun k => ?_⟩ f).symm
  · exact Fin.ext (congrArg Fin.val (congrFun h (0 : Fin 1)) :)
  · refine ⟨(k (0 : Fin 1)).cast (hn 0), funext fun a => ?_⟩
    obtain rfl := Subsingleton.elim a (0 : Fin 1)
    exact Fin.ext rfl

end Cert.Score

end
-- ==== Proof.Sim.lean ====
/- One block of the kernel's similarity matrix, read at a centroid and a row of the block. -/
module

public import proofs.«01_k».proof.Proof.Chain
public import proofs.«01_k».proof.Proof.Score
public import Idealize.ShloMosaic.PureOps.Ideal.Laws
public import Idealize.ShloMosaic.Lib.Pipeline.Value

@[expose] public section

set_option maxRecDepth 16384

noncomputable section

namespace Cert.Sim

open Idealize.ShloMosaic Cert.KernelIdeal Cert.KernelIdeal.Gen Cert.Score

variable (v : FVec Ideal S16384x64 .f32) (w : FVec Ideal S512x64 .f32)

/-- The block's rows, laid out as columns. -/
def columns : FVec Ideal S64x16384 .f32 := transpose S64x16384 [1, 0] v transposes_S16384x64_p1_0_S64x16384

/-- The sum of squares of each column. -/
def squares : FVec Ideal S16384 .f32 :=
  multiReduction .add [0] S16384 (mulf (columns v) (columns v)) 0x00000000#32 reduces_S64x16384_S16384 (.inl rfl) rfl

/-- The divisor of each column. -/
def divisors : FVec Ideal S1x16384 .f32 :=
  maximumf (sqrt (shapeCast S1x16384 (squares v) shapeCasts_S16384_S1x16384))
    (broadcast S1x16384 (Scalar.ofBits .f32 0x2B8CBCCC#32))

/-- The normalised columns. -/
def unitColumns : FVec Ideal S64x16384 .f32 :=
  divf (columns v) (broadcastTo S64x16384 (divisors v) broadcasts_S1x16384_S64x16384)

/-- The similarity block is the centroids times the normalised columns. -/
theorem pay_eq : k0_pay2 v w = matmul dot_S512x64_S64x16384_S512x16384_1_0_0_1_n_n none w (unitColumns v)
    (constant S512x16384 .f32 0x00000000#32) := rfl

/-- A column's entry is the row's. -/
theorem columns_apply (d : Fin 64) (c : Fin 16384) : columns v (ix2 d c) = v (ix2 c d) := by
  refine transpose_apply _ _ _ _ _ fun b => ?_
  match b with
  | ⟨0, _⟩ => rfl
  | ⟨1, _⟩ => rfl

/-- A column's sum of squares. -/
theorem squares_apply (c : Fin 16384) : squares v (ix1 c) = ∑ e : Fin 64, v (ix2 c e) * v (ix2 c e) := by
  refine (Ideal.multiReduction_add_single _ _ _ _ _ (ix1 c)).trans (Finset.sum_congr rfl fun e _ => ?_)
  have h : (reduces_S64x16384_S16384 : S64x16384.Reduces [0] S16384).lift (ix1 c) e = ix2 e c := Shape.idx_ext₂ rfl rfl
  rw [h]
  exact congrArg (fun z => z * z) (columns_apply v e c)

/-- A column's divisor. -/
theorem divisors_apply (c : Fin 16384) : divisors v (ix2 (0 : Fin 1) c) = divisor fun d => v (ix2 c d) := by
  have h : shapeCast S1x16384 (squares v) shapeCasts_S16384_S1x16384 (ix2 (0 : Fin 1) c) = squares v (ix1 c) := by
    refine (shapeCast_addUnit_apply _ _ _ _).trans (congrArg (squares v) (funext fun a => ?_))
    match a with
    | ⟨0, _⟩ => rfl
  have e : divisors v (ix2 (0 : Fin 1) c) = FloatOps.maximumf
      (FloatOps.sqrt (shapeCast S1x16384 (squares v) shapeCasts_S16384_S1x16384 (ix2 (0 : Fin 1) c)))
      (FloatOps.ofBits .f32 0x2B8CBCCC#32) := rfl
  rw [e, h, squares_apply, Ideal.maximumf_def, Ideal.sqrt_def, divisor]
  rfl

/-- A normalised column's entry. -/
theorem unitColumns_apply (d : Fin 64) (c : Fin 16384) :
    unitColumns v (ix2 d c) = Ideal.div (v (ix2 c d)) (divisor fun d => v (ix2 c d)) := by
  have h : broadcastTo S64x16384 (divisors v) broadcasts_S1x16384_S64x16384 (ix2 d c) = divisors v (ix2 (0 : Fin 1) c) := by
    refine broadcastTo_apply _ _ _ _ fun a => ?_
    match a with
    | ⟨0, _⟩ => rfl
    | ⟨1, _⟩ => rfl
  have e : unitColumns v (ix2 d c) = FloatOps.divf (columns v (ix2 d c))
      (broadcastTo S64x16384 (divisors v) broadcasts_S1x16384_S64x16384 (ix2 d c)) := rfl
  rw [e, h, columns_apply, divisors_apply, Ideal.divf_def]

/-- The contraction runs over one axis of extent 64. -/
theorem one_contraction : ∀ a, dot_S512x64_S64x16384_S512x16384_1_0_0_1_n_n.contr.size a = 64 := by decide

/-- The similarity of centroid `n` and row `c` of the block is their score. -/
theorem sim_apply (n : Fin 512) (c : Fin 16384) :
    k0_pay2 (F := Ideal) v w (ix2 n c) = score (fun d => w (ix2 n d)) fun d => v (ix2 c d) := by
  rw [pay_eq]
  refine (Ideal.matmul_constant_zero_apply _ _ _ _ _).trans ?_
  refine (sum_oneAxis _ 64 rfl one_contraction _).trans ?_
  unfold score
  refine Finset.sum_congr rfl fun d _ => ?_
  have hl : dot_S512x64_S64x16384_S512x16384_1_0_0_1_n_n.lhsIdx (ix2 n c) (oneAxis _ 64 one_contraction d) = ix2 n d := Shape.idx_ext₂ rfl rfl
  have hr : dot_S512x64_S64x16384_S512x16384_1_0_0_1_n_n.rhsIdx (ix2 n c) (oneAxis _ 64 one_contraction d) = ix2 d c := Shape.idx_ext₂ rfl rfl
  rw [hl, hr, unitColumns_apply]

end Cert.Sim

end
-- ==== Proof.Array.lean ====
/- The kernel's result array: entry `i` is the first centroid with the largest score of row `i`. -/
module

public import proofs.«01_k».proof.Proof.Gen.KernelIdeal.Value
public import proofs.«01_k».proof.Proof.Close
public import proofs.«01_k».proof.Proof.Sim
public import Idealize.ShloMosaic.Lib.Pipeline.ValueKit

@[expose] public section

set_option maxRecDepth 16384

noncomputable section

namespace Cert.Array

open Idealize.ShloMosaic Idealize.ShloMosaic.TcCoe Cert.KernelIdeal Cert.KernelIdeal.Gen Cert.Chain Cert.Score Cert.First

/-- The first centroid with the largest score of row `i`. -/
def answer (x : FVec Ideal S131072x64 .f32) (y : FVec Ideal S512x64 .f32) (i : Fin 131072) : BitVec 32 :=
  BitVec.ofNat 32 (first fun n : Fin 512 => score (fun d => y (ix2 n d)) fun d => x (ix2 i d)).val

/-- What one grid point leaves at column `c` of its block. -/
theorem out_apply (x0 : Vec Ideal S16384x64 .f32) (x1 : Vec Ideal S512x64 .f32) (j : S16384.Idx) :
    out0_2 x0 x1 j = BitVec.ofNat 32
      (first fun n : Fin 512 => score (fun d => x1 (ix2 n d)) fun d => x0 (ix2 (j 0) d)).val := by
  have hz1 : (![0] : Fin 1 → ℕ) = fun _ => 0 := by decide
  have hz2 : (![0, 0] : Fin 2 → ℕ) = fun _ => 0 := by decide
  rw [out_eq, View.canon_unit_zero hz1, Close.closing_apply]
  refine congrArg (fun s => BitVec.ofNat 32 (first s).val) (funext fun n => ?_)
  unfold sim
  rw [View.ld_unit_zero hz2, View.ld_unit_zero hz2]
  exact Sim.sim_apply x0 x1 n (j 0)

variable (m : (ℓ : Loc nD τ sig) → Buf (Elt Ideal) ℓ)

/-- The windows' block numbers: the rows and the result move one block a point, the centroids stay. -/
theorem idx : ∀ t : Fin cfg0.N, win0_0.index t = ![t.val, 0] ∧ win0_1.index t = ![0, 0] ∧ win0_2.index t = ![t.val] :=
  (by decide +kernel : ∀ t : Fin grid0.N, win0_0.index t = ![t.val, 0] ∧ win0_1.index t = ![0, 0] ∧ win0_2.index t = ![t.val])

/-- The result array after the run. -/
theorem array_eq (c : Dev nD) : (dats m 0 c).arrAt 2 cfg0.N
    = fun i => answer (m ((c : Thread nD τ).loc main_arg0)) (m ((c : Thread nD τ).loc main_arg1)) (i 0) := by
  refine (dats m 0 c).arrAt_eq_of_covers 2 _ (by decide +kernel) fun t hf y => ?_
  blk_simp
  rw [after0_2, out_apply]
  refine congrArg (fun s => BitVec.ofNat 32 (first s).val) (funext fun n => ?_)
  refine congrArg₂ score (funext fun d => ?_) (funext fun d => ?_)
  · blk_ext [iblk, V, idx t]
  · blk_ext [iblk, V, idx t]

end Cert.Array

end
-- ==== Proof.RefRun.lean ====
/- The reference's run: what its result array holds, as one function of its two argument arrays.

   The reference is a straight line of array operations: the row norms, the normalised rows, their products with the
   centroids, and the index of each row's first largest product. -/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunHlo

@[expose] public section

noncomputable section

namespace Cert.RefRun

open Idealize.ShloMosaic Idealize.ShloMosaic.TcCoe Idealize.SL.Sem Cert.ReferenceIdeal

/-- The reference's normalised rows: each row divided by the larger of its Euclidean norm and the small constant. -/
def unitRows (x : FVec Ideal S131072x64 .f32) : FVec Ideal S131072x64 .f32 :=
  Host.divf x (broadcastInDim S131072x64 ![0, 1] Facts₀.bcast_S131072x1_S131072x64_0_1
    (maximumf
      (Host.sqrt (broadcastInDim S131072x1 ![0] Facts₀.bcast_S131072_S131072x1_0
        (Host.reduceAdd (mulf x x) (constant S_ .f32 0x00000000#32) Facts₀.reducesTo_S131072x64_S131072_d1 Facts₀.h_S_)))
      (broadcastInDim S131072x1 ![] Facts₀.bcast_S_S131072x1 (constant S_ .f32 0x2B8CBCCC#32))))

/-- The reference's products of normalised rows and centroids. -/
def products (x : FVec Ideal S131072x64 .f32) (y : FVec Ideal S512x64 .f32) : FVec Ideal S131072x512 .f32 :=
  Host.dotGeneral dot_S131072x64_S64x512_S131072x512_1_0_0_1_n_n none (unitRows x)
    (transpose S64x512 [1, 0] y Facts₀.transposes_S512x64_S64x512_1_0)

/-- The indices the reference's arg-max answers over an array of values and one of indices. -/
def argIndex {s t u : Shape} {axes : List (Fin s.rank)} (x : FVec Ideal s .f32) (y : IVec s 32) (ix : FVec Ideal u .f32)
    (iy : IVec u 32) (h : s.ReducesTo axes t) (hu : 0 < u.numel) : IVec t 32 := fun j =>
  (Host.argReduce (reducer_argmax_f32_i32 (F := Ideal)) x y ix iy h hu j).2

/-- The reference's result: for each row, the index its arg-max over the products answers. -/
def result (x : FVec Ideal S131072x64 .f32) (y : FVec Ideal S512x64 .f32) : IVec S131072 32 :=
  argIndex (products x y) (iotaInDim S131072x512 32 1) (constant S_ .f32 0xFF800000#32) (constantI S_ 32 0#32)
    Facts₀.reducesTo_S131072x512_S131072_d1 Facts₀.h_S_

variable (m : (ℓ : Loc nD τ sig) → Buf (Elt Ideal) ℓ) (g : Dev nD → PrngReg)

/-- From any memory the reference runs to the end with its result array at `result` of its arguments, and the arguments
    as they were. -/
theorem run : θ_run defs (onTc (τ := τ) (main (F := Ideal))) ⟨m, fun _ => 0, g⟩ fun r => ∀ c : Dev nD,
      r.2.mem ((c.tc : Thread nD τ).loc main_v7)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  rfl

/-- The reference leaves its arguments unchanged and every semaphore counter at zero: it declares none. -/
theorem frame : θ_run defs (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m g)

end Cert.RefRun

end
-- ==== Proof.RefScore.lean ====
/- The reference's products, read at a row and a centroid: the same score. -/
module

public import proofs.«01_k».proof.Proof.RefRun
public import proofs.«01_k».proof.Proof.Score
public import Idealize.ShloMosaic.PureOps.Ideal.Laws
public import Idealize.ShloMosaic.Lib.Pipeline.Value

@[expose] public section

set_option maxRecDepth 16384

noncomputable section

namespace Cert.RefRun

open Idealize.ShloMosaic Cert.ReferenceIdeal Cert.Score

variable (x : FVec Ideal S131072x64 .f32) (y : FVec Ideal S512x64 .f32)

/-- The reduced axis of the reference's sum of squares, as the one an index is put back into. -/
theorem reduces_rows : S131072x64.Reduces [1] S131072 := by decide

/-- The sum of squares of each row. -/
def rowSquares : FVec Ideal S131072 .f32 :=
  Host.reduceAdd (mulf x x) (constant S_ .f32 0x00000000#32) Facts₀.reducesTo_S131072x64_S131072_d1 Facts₀.h_S_

/-- The divisor of each row. -/
def rowDivisors : FVec Ideal S131072x1 .f32 :=
  maximumf (Host.sqrt (broadcastInDim S131072x1 ![0] Facts₀.bcast_S131072_S131072x1_0 (rowSquares x)))
    (broadcastInDim S131072x1 ![] Facts₀.bcast_S_S131072x1 (constant S_ .f32 0x2B8CBCCC#32))

/-- A row's sum of squares. -/
theorem rowSquares_apply (i : Fin 131072) : rowSquares x (ix1 i) = ∑ e : Fin 64, x (ix2 i e) * x (ix2 i e) := by
  refine (Ideal.hostReduceAdd_single _ reduces_rows _ _ (ix1 i)).trans ?_
  show Ideal.ofBits .f32 0x00000000#32 + _ = _
  rw [Ideal.ofBits_zero_f32, zero_add]
  refine Finset.sum_congr rfl fun e _ => ?_
  have h : reduces_rows.lift (ix1 i) e = ix2 i e := Shape.idx_ext₂ rfl rfl
  rw [h]
  rfl

/-- A row's divisor. -/
theorem rowDivisors_apply (i : Fin 131072) : rowDivisors x (ix2 i (0 : Fin 1)) = divisor fun d => x (ix2 i d) := by
  have h : broadcastInDim S131072x1 ![0] Facts₀.bcast_S131072_S131072x1_0 (rowSquares x) (ix2 i (0 : Fin 1)) = rowSquares x (ix1 i) := by
    refine broadcastInDim_apply _ _ _ _ _ fun a => ?_
    match a with
    | ⟨0, _⟩ => rfl
  have e : rowDivisors x (ix2 i (0 : Fin 1)) = FloatOps.maximumf
      (FloatOps.hostUnary .sqrt (broadcastInDim S131072x1 ![0] Facts₀.bcast_S131072_S131072x1_0 (rowSquares x) (ix2 i (0 : Fin 1))))
      (FloatOps.ofBits .f32 0x2B8CBCCC#32) := rfl
  rw [e, h, rowSquares_apply, Ideal.maximumf_def, Ideal.hostUnary_sqrt_def, divisor]
  rfl

/-- A normalised row's entry. -/
theorem unitRows_apply (i : Fin 131072) (d : Fin 64) :
    unitRows x (ix2 i d) = Ideal.div (x (ix2 i d)) (divisor fun d => x (ix2 i d)) := by
  have h : broadcastInDim S131072x64 ![0, 1] Facts₀.bcast_S131072x1_S131072x64_0_1 (rowDivisors x) (ix2 i d)
      = rowDivisors x (ix2 i (0 : Fin 1)) := by
    refine broadcastInDim_apply _ _ _ _ _ fun a => ?_
    match a with
    | ⟨0, _⟩ => rfl
    | ⟨1, _⟩ => rfl
  have e : unitRows x (ix2 i d) = FloatOps.hostDivf (x (ix2 i d))
      (broadcastInDim S131072x64 ![0, 1] Facts₀.bcast_S131072x1_S131072x64_0_1 (rowDivisors x) (ix2 i d)) := rfl
  rw [e, h, rowDivisors_apply, Ideal.hostDivf_def]

/-- The contraction runs over one axis of extent 64. -/
theorem one_contraction : ∀ a, dot_S131072x64_S64x512_S131072x512_1_0_0_1_n_n.contr.size a = 64 := by decide

/-- The product of row `i` and centroid `n` is their score. -/
theorem products_apply (i : Fin 131072) (n : Fin 512) :
    products x y (ix2 i n) = score (fun d => y (ix2 n d)) fun d => x (ix2 i d) := by
  refine (Ideal.dotGeneral_apply _ _ _ _ _ _).trans ?_
  refine (sum_oneAxis _ 64 rfl one_contraction _).trans ?_
  unfold score
  refine Finset.sum_congr rfl fun d _ => ?_
  have hl : dot_S131072x64_S64x512_S131072x512_1_0_0_1_n_n.lhsIdx (ix2 i n) (oneAxis _ 64 one_contraction d) = ix2 i d := Shape.idx_ext₂ rfl rfl
  have hr : dot_S131072x64_S64x512_S131072x512_1_0_0_1_n_n.rhsIdx (ix2 i n) (oneAxis _ 64 one_contraction d) = ix2 d n := Shape.idx_ext₂ rfl rfl
  have ht : transpose S64x512 [1, 0] y Facts₀.transposes_S512x64_S64x512_1_0 (ix2 d n) = y (ix2 n d) := by
    refine transpose_apply _ _ _ _ _ fun b => ?_
    match b with
    | ⟨0, _⟩ => rfl
    | ⟨1, _⟩ => rfl
  rw [hl, hr, ht, unitRows_apply, mul_comm]

end Cert.RefRun

end
-- ==== Proof.ArgMax.lean ====
/- The reference's arg-max: in whatever order it meets a row's pairs of value and index, it keeps the largest value and, among
   equals, the smallest index; so its answer is the index of the first maximum. -/
module

public import proofs.«01_k».proof.Proof.RefRun
public import proofs.«01_k».proof.Proof.First
public import Idealize.ShloMosaic.PureOps.Ideal.Laws

@[expose] public section

set_option maxRecDepth 16384

noncomputable section

namespace Cert.RefRun

open Idealize.ShloMosaic Cert.ReferenceIdeal Cert.First

/-- Of two pairs, `p` is to be kept against `q`: its value is larger, or equal with no larger an index. -/
def Keeps (p q : EReal × BitVec 32) : Prop := q.1 < p.1 ∨ (q.1 = p.1 ∧ p.2.toNat ≤ q.2.toNat)

/-- A pair is kept against itself. -/
theorem Keeps.refl (p : EReal × BitVec 32) : Keeps p p := Or.inr ⟨rfl, le_refl _⟩

/-- Being kept passes through a third pair. -/
theorem Keeps.trans {p q r : EReal × BitVec 32} (h : Keeps p q) (h' : Keeps q r) : Keeps p r := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- For indices below 512 the signed comparison is the comparison of the numbers. -/
theorem slt_small (a b : BitVec 32) (ha : a.toNat < 512) (hb : b.toNat < 512) : a.slt b = decide (a.toNat < b.toNat) := by
  rw [BitVec.slt_eq_decide, BitVec.toInt_eq_toNat_of_lt (by omega), BitVec.toInt_eq_toNat_of_lt (by omega)]
  exact decide_eq_decide.2 Nat.cast_lt

/-- One step of the reference's arg-max answers the pair to be kept. -/
theorem step_eq (a b : EReal × BitVec 32) (ha : a.2.toNat < 512) (hb : b.2.toNat < 512) :
    reducer_argmax_f32_i32 (F := Ideal) a b = if b.1 < a.1 ∨ (a.1 = b.1 ∧ a.2.toNat < b.2.toNat) then a else b := by
  obtain ⟨u, k⟩ := a
  obtain ⟨w, l⟩ := b
  have hs := slt_small k l ha hb
  show (Scalar.select (IntOp.ori (BitVec.ofBool (decide (w < u))) (BitVec.ofBool (decide (u ≠ u)))) u w,
    Scalar.select (IntOp.ori (IntOp.ori (BitVec.ofBool (decide (w < u))) (BitVec.ofBool (decide (u ≠ u))))
      (IntOp.andi (BitVec.ofBool (decide (u = w))) (BitVec.ofBool (k.slt l)))) k l) = _
  rw [hs]
  rcases lt_trichotomy u w with h | h | h
  · have h1 : ¬ w < u := h.not_gt
    have h2 : u ≠ w := h.ne
    simp [Scalar.select, IntOp.ori, IntOp.andi, h1, h2]
  · subst h
    by_cases hk : k.toNat < l.toNat <;> simp [Scalar.select, IntOp.ori, IntOp.andi, hk]
  · have h2 : u ≠ w := h.ne'
    simp [Scalar.select, IntOp.ori, IntOp.andi, h, h2]

/-- The step answers one of its two pairs, and that one is kept against both. -/
theorem step_keeps (a b : EReal × BitVec 32) (ha : a.2.toNat < 512) (hb : b.2.toNat < 512) :
    (reducer_argmax_f32_i32 (F := Ideal) a b = a ∨ reducer_argmax_f32_i32 (F := Ideal) a b = b)
      ∧ Keeps (reducer_argmax_f32_i32 (F := Ideal) a b) a ∧ Keeps (reducer_argmax_f32_i32 (F := Ideal) a b) b := by
  rw [step_eq a b ha hb]
  by_cases h : b.1 < a.1 ∨ (a.1 = b.1 ∧ a.2.toNat < b.2.toNat)
  · rw [if_pos h]
    exact ⟨Or.inl rfl, Keeps.refl a, h.imp id fun h => ⟨h.1.symm, h.2.le⟩⟩
  · rw [if_neg h]
    refine ⟨Or.inr rfl, ?_, Keeps.refl b⟩
    rw [not_or, not_lt] at h
    rcases h.1.lt_or_eq with h' | h'
    · exact Or.inl h'
    · exact Or.inr ⟨h', not_lt.1 fun hk => h.2 ⟨h', hk⟩⟩

/-- The whole fold answers its start or a member of the list, and what it answers is kept against all of them. -/
theorem fold_keeps (l : List (EReal × BitVec 32)) (hl : ∀ p ∈ l, p.2.toNat < 512) (a : EReal × BitVec 32) (ha : a.2.toNat < 512) :
    (l.foldl (reducer_argmax_f32_i32 (F := Ideal)) a ∈ a :: l)
      ∧ ∀ q ∈ a :: l, Keeps (l.foldl (reducer_argmax_f32_i32 (F := Ideal)) a) q := by
  induction l generalizing a with
  | nil =>
    refine ⟨List.mem_cons_self, fun q hq => ?_⟩
    obtain rfl := List.mem_singleton.1 hq
    exact Keeps.refl q
  | cons b l ih =>
    have hb : b.2.toNat < 512 := hl b List.mem_cons_self
    obtain ⟨hor, hka, hkb⟩ := step_keeps a b ha hb
    have hs : (reducer_argmax_f32_i32 (F := Ideal) a b).2.toNat < 512 := by
      rcases hor with h | h <;> rw [h] <;> assumption
    obtain ⟨hm, hk⟩ := ih (fun p hp => hl p (List.mem_cons_of_mem b hp)) _ hs
    rw [List.foldl_cons]
    have hfirst := hk _ List.mem_cons_self
    refine ⟨?_, fun q hq => ?_⟩
    · rcases List.mem_cons.1 hm with h | h
      · rw [h]
        rcases hor with h' | h' <;> rw [h'] <;> simp
      · exact List.mem_cons_of_mem a (List.mem_cons_of_mem b h)
    · rcases List.mem_cons.1 hq with rfl | hq
      · exact hfirst.trans hka
      · rcases List.mem_cons.1 hq with rfl | hq
        · exact hfirst.trans hkb
        · exact hk q (List.mem_cons_of_mem _ hq)

/-- A fold over a list that holds exactly the pairs of the values `s` with their indices answers the first maximum's. -/
theorem fold_first (s : Fin 512 → EReal) (l : List (EReal × BitVec 32))
    (hl : ∀ p, p ∈ l ↔ ∃ n : Fin 512, p = (s n, BitVec.ofNat 32 n.val)) :
    (l.foldl (reducer_argmax_f32_i32 (F := Ideal)) (⊥, 0#32)).2 = BitVec.ofNat 32 (first s).val := by
  have hidx : ∀ n : Fin 512, (BitVec.ofNat 32 n.val).toNat = n.val := fun n => by
    rw [BitVec.toNat_ofNat]
    exact Nat.mod_eq_of_lt (by have := n.isLt; omega)
  obtain ⟨hm, hk⟩ := fold_keeps l (fun p hp => by
    obtain ⟨n, rfl⟩ := (hl p).1 hp
    rw [hidx]
    exact n.isLt) (⊥, 0#32) (by decide)
  have hk' : ∀ n : Fin 512, Keeps (l.foldl (reducer_argmax_f32_i32 (F := Ideal)) (⊥, 0#32)) (s n, BitVec.ofNat 32 n.val) :=
    fun n => hk _ (List.mem_cons_of_mem _ ((hl _).2 ⟨n, rfl⟩))
  have hsome : ∃ N : Fin 512, l.foldl (reducer_argmax_f32_i32 (F := Ideal)) (⊥, 0#32) = (s N, BitVec.ofNat 32 N.val) := by
    rcases List.mem_cons.1 hm with h | h
    · refine ⟨0, h.trans ?_⟩
      have h0 := hk' 0
      rw [h] at h0
      rcases h0 with h0 | h0
      · exact absurd h0 not_lt_bot
      · exact Prod.ext h0.1.symm rfl
    · exact (hl _).1 h
  obtain ⟨N, hN⟩ := hsome
  have hfirst : IsFirst s N := by
    refine ⟨fun n => ?_, fun n hn => ?_⟩
    · have h := hk' n
      rw [hN] at h
      rcases h with h | h
      · exact h.le
      · exact h.1.le
    · have h := hk' n
      rw [hN] at h
      rcases h with h | ⟨_, h⟩
      · exact h
      · exact absurd (Fin.lt_def.1 hn) (not_lt.2 (by simpa only [hidx] using h))
  rw [hN, hfirst.eq_first]

/-- The pairs an arg-reduction folds over at `j` are those of the places that drop to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i : s.Idx, h.drop i = j ∧ p = (x i, y i) := by
  unfold Host.argReduceFiber
  rw [List.mem_map]
  constructor
  · rintro ⟨q, hq, rfl⟩
    exact ⟨_, of_decide_eq_true (List.mem_filter.1 hq).2, rfl⟩
  · rintro ⟨i, hi, rfl⟩
    refine ⟨s.rowMajor i, List.mem_filter.2 ⟨List.mem_finRange _, decide_eq_true ?_⟩, ?_⟩
    · rw [Equiv.symm_apply_apply, hi]
    · rw [Equiv.symm_apply_apply]

/-- The reference's arg-reduction, started at the least value and index 0, over places that hold exactly the values `s` with
    their indices. -/
theorem argIndex_first {sh t u : Shape} {axes : List (Fin sh.rank)} (x : FVec Ideal sh .f32) (y : IVec sh 32) (ix : FVec Ideal u .f32)
    (iy : IVec u 32) (h : sh.ReducesTo axes t) (hu : 0 < u.numel) (j : t.Idx) (s : Fin 512 → EReal)
    (hl : ∀ p : EReal × BitVec 32, p ∈ Host.argReduceFiber x y h j ↔ ∃ n : Fin 512, p = (s n, BitVec.ofNat 32 n.val))
    (hx : ix (Shape.Idx.first hu) = (⊥ : EReal)) (hy : iy (Shape.Idx.first hu) = 0#32) :
    argIndex x y ix iy h hu j = BitVec.ofNat 32 (first s).val := by
  unfold argIndex
  rw [Ideal.argReduce_eq_reduce2, Host.reduce2_eq_foldl_fiber, hx, hy]
  exact fold_first s _ hl

end Cert.RefRun

end
-- ==== Proof.RefValue.lean ====
/- The reference's result: entry `i` is the first centroid with the largest score of row `i`. -/
module

public import proofs.«01_k».proof.Proof.RefScore
public import proofs.«01_k».proof.Proof.ArgMax

@[expose] public section

set_option maxRecDepth 16384

noncomputable section

namespace Cert.RefRun

open Idealize.ShloMosaic Cert.ReferenceIdeal Cert.Score Cert.First

variable (x : FVec Ideal S131072x64 .f32) (y : FVec Ideal S512x64 .f32)

/-- The reduced axis of the reference's arg-max, as the one an index is put back into. -/
theorem reduces_products : S131072x512.Reduces [1] S131072 := by decide

/-- Dropping the centroid of a place of the product matrix leaves its row. -/
theorem drop_eq (i : Fin 131072) (n : Fin 512) : Facts₀.reducesTo_S131072x512_S131072_d1.drop (ix2 i n) = ix1 i := by
  rw [Shape.ReducesTo.drop_eq_drop _ reduces_products]
  have h : reduces_products.lift (ix1 i) n = ix2 i n := Shape.idx_ext₂ rfl rfl
  rw [← h]
  exact reduces_products.drop_lift _ _

/-- A place of the product matrix and its number along the centroids, as the pair of a score and an index. -/
theorem entry_eq (i : Fin 131072) (n : Fin 512) :
    (products x y (ix2 i n), iotaInDim S131072x512 32 1 (ix2 i n))
      = (score (fun d => y (ix2 n d)) (fun d => x (ix2 i d)), BitVec.ofNat 32 n.val) :=
  Prod.ext (products_apply x y i n) rfl

/-- The pairs the reference folds over for row `i`. -/
theorem mem_rowFiber (i : Fin 131072) (p : EReal × BitVec 32) :
    p ∈ Host.argReduceFiber (products x y) (iotaInDim S131072x512 32 1) Facts₀.reducesTo_S131072x512_S131072_d1 (ix1 i)
      ↔ ∃ n : Fin 512, p = (score (fun d => y (ix2 n d)) (fun d => x (ix2 i d)), BitVec.ofNat 32 n.val) := by
  refine (mem_fiber _ _ _ _ _).trans ⟨?_, ?_⟩
  · rintro ⟨k, hk, rfl⟩
    obtain ⟨a, n, rfl⟩ : ∃ (a : Fin 131072) (n : Fin 512), k = ix2 a n := ⟨_, _, eq_ix2 k⟩
    have ha : a = i := congrFun ((drop_eq a n).symm.trans hk) 0
    rw [ha]
    exact ⟨n, entry_eq x y i n⟩
  · rintro ⟨n, rfl⟩
    exact ⟨ix2 i n, drop_eq i n, (entry_eq x y i n).symm⟩

/-- The reference's result for row `i`: the first centroid with the largest score. -/
theorem result_apply (i : Fin 131072) :
    result x y (ix1 i) = BitVec.ofNat 32 (first fun n : Fin 512 => score (fun d => y (ix2 n d)) fun d => x (ix2 i d)).val := by
  have hb : (constant S_ .f32 0xFF800000#32 : FVec Ideal S_ .f32) (Shape.Idx.first Facts₀.h_S_) = (⊥ : EReal) := by
    show Ideal.ofBits .f32 0xFF800000#32 = ⊥
    simp [Ideal.ofBits, Ideal.ieee]
  exact argIndex_first _ _ _ _ _ _ _ _ (mem_rowFiber x y i) hb rfl

end Cert.RefRun

end
-- ==== Proof.Equation.lean ====
/- The equation between the two programs' result arrays. -/
module

public import proofs.«01_k».proof.Proof.Array
public import proofs.«01_k».proof.Proof.RefValue

@[expose] public section

noncomputable section

namespace Cert.Equation

open Idealize.ShloMosaic Idealize.ShloMosaic.TcCoe Cert.KernelIdeal Cert.KernelIdeal.Gen

/-- The reference's result, computed from the kernel's arguments, is the kernel's result array. -/
theorem result_eq_array (m : (ℓ : Loc nD τ sig) → Buf (Elt Ideal) ℓ) (c : Dev nD) :
    RefRun.result (m ((c : Thread nD τ).loc main_arg0)) (m ((c : Thread nD τ).loc main_arg1))
      = (dats m 0 c).arrAt 2 cfg0.N := by
  rw [Array.array_eq]
  funext i
  obtain ⟨a, rfl⟩ : ∃ a : Fin 131072, i = ix1 a := ⟨_, eq_ix1 i⟩
  exact RefRun.result_apply _ _ a

end Cert.Equation

end
-- ==== Proof.lean ====
/- The certificate's claims: each program runs to the end, faults nowhere and leaves its arguments as they were; the idealized
   kernel is the kernel's print; and over exact numbers the kernel's result array is the reference's.

   Proof/Chain.lean names the values of the kernel's comparison chain, Proof/Walk.lean says what the chain has found at its end,
   Proof/Close.lean what the closing stage makes of it, Proof/Sim.lean reads the similarity block, and Proof/Array.lean puts
   the blocks together into the result array. Proof/RefRun.lean runs the reference, Proof/RefScore.lean and Proof/RefValue.lean
   read its result. Proof/Equation.lean sets the two arrays equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- Over exact numbers, from memories that agree on the arguments, the kernel and the reference end with the same result array
    and with their arguments unchanged. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 2 Cert.KernelIdeal.cfg0.N, Cert.KernelIdeal.Value.run_blocks m g, ?_⟩
  refine (θ_run _ _ _).mono (fun r h c => ⟨(h c).1.trans ?_, (h c).2⟩) (Cert.RefRun.run m' g')
  rw [(hagree c).1, (hagree c).2]
  exact Cert.Equation.result_eq_array m c

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, fun m g _ => Cert.RefRun.frame m g,
    trivial, same_result⟩

end Cert.Proof

end
